-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gate_inputs [hPre_finite_gate_inputs : Cert.Pre_finite_gate_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gate_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_gate_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gate_inputs [hPre_finite_gate_inputs : Cert.Pre_finite_gate_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gate_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_gate_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_gate_inputs [hKernelIdeal : Cert.KernelIdeal.Facts] [hPre_finite_gate_inputs : Cert.Pre_finite_gate_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gate_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_gate_inputs [hReferenceIdeal : Cert.ReferenceIdeal.Facts] [hPre_finite_gate_inputs : Cert.Pre_finite_gate_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gate_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_gate_inputs [hKernelIdeal : Cert.KernelIdeal.Facts] [hReferenceIdeal : Cert.ReferenceIdeal.Facts] [hPre_finite_gate_inputs : Cert.Pre_finite_gate_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gate_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_gate_inputs : Cert.Pre_finite_gate_inputs.Facts),
    quiescent_Kernel (hKernel := hKernel)
    ∧ quiescent_KernelIdeal (hKernelIdeal := hKernelIdeal)
    ∧ quiescent_KernelIdeal_pre_finite_gate_inputs (hKernelIdeal := hKernelIdeal) (hPre_finite_gate_inputs := hPre_finite_gate_inputs)
    ∧ quiescent_ReferenceIdeal (hReferenceIdeal := hReferenceIdeal)
    ∧ quiescent_ReferenceIdeal_pre_finite_gate_inputs (hReferenceIdeal := hReferenceIdeal) (hPre_finite_gate_inputs := hPre_finite_gate_inputs)
    ∧ preserves_Kernel_KernelIdeal
    ∧ algebraic_KernelIdeal_ReferenceIdeal_pre_finite_gate_inputs (hKernelIdeal := hKernelIdeal) (hReferenceIdeal := hReferenceIdeal) (hPre_finite_gate_inputs := hPre_finite_gate_inputs)
-- ==== Pre_finite_gate_inputs.lean ====
abbrev S2048x768 : Shape := ⟨2, ![2048, 768]⟩
abbrev S8x768 : Shape := ⟨2, ![8, 768]⟩
abbrev S8x128x768 : Shape := ⟨3, ![8, 128, 768]⟩
abbrev S8x128 : Shape := ⟨2, ![8, 128]⟩
abbrev S8x128x128 : Shape := ⟨3, ![8, 128, 128]⟩
abbrev S_ : Shape := ⟨0, ![]⟩

class Facts : Prop where
  bcast_S_S2048x768 : S_.BroadcastsInDim S2048x768 (![] : Fin 0 → Fin S2048x768.rank)
  bcast_S_S8x768 : S_.BroadcastsInDim S8x768 (![] : Fin 0 → Fin S8x768.rank)

variable [Facts]

def fn {F : FTy → Type} [FloatOps F] (main_arg0 : FVec F S2048x768 .f32) (main_arg1 : FVec F S8x768 .f32) (main_arg2 : FVec F S8x128x768 .f32) (main_arg3 : FVec F S8x128 .f32) (main_arg4 : FVec F S8x128x128 .f32) (main_arg5 : FVec F S8x128 .f32) : IVec S2048x768 1 × IVec S8x768 1 :=
  let main_v0 : FVec F S2048x768 .f32 := Host.absf main_arg0
  let main_cst : FVec F S_ .f32 := constant S_ .f32 0x7F800000#32
  let main_v1 : FVec F S2048x768 .f32 := broadcastInDim S2048x768 ![] bcast_S_S2048x768 main_cst
  let main_v2 : IVec S2048x768 1 := cmpf .olt main_v0 main_v1
  let main_v3 : FVec F S8x768 .f32 := Host.absf main_arg1
  let main_cst_0 : FVec F S_ .f32 := constant S_ .f32 0x7F800000#32
  let main_v4 : FVec F S8x768 .f32 := broadcastInDim S8x768 ![] bcast_S_S8x768 main_cst_0
  let main_v5 : IVec S8x768 1 := cmpf .olt main_v3 main_v4
  (main_v2, main_v5)
-- ==== Kernel.lean ====
abbrev S2048x768 : Shape := ⟨2, ![2048, 768]⟩
abbrev S8x768 : Shape := ⟨2, ![8, 768]⟩
abbrev S8x128x768 : Shape := ⟨3, ![8, 128, 768]⟩
abbrev S8x128 : Shape := ⟨2, ![8, 128]⟩
abbrev S8x128x128 : Shape := ⟨3, ![8, 128, 128]⟩
abbrev S1024x768 : Shape := ⟨2, ![1024, 768]⟩
abbrev S1024x128 : Shape := ⟨2, ![1024, 128]⟩
abbrev S1x1024 : Shape := ⟨2, ![1, 1024]⟩
abbrev S2048x128 : Shape := ⟨2, ![2048, 128]⟩
abbrev S2048x8 : Shape := ⟨2, ![2048, 8]⟩
abbrev S256x768 : Shape := ⟨2, ![256, 768]⟩
abbrev S512x768 : Shape := ⟨2, ![512, 768]⟩
abbrev S1024x8 : Shape := ⟨2, ![1024, 8]⟩
abbrev S256x8 : Shape := ⟨2, ![256, 8]⟩
abbrev S256 : Shape := ⟨1, ![256]⟩
abbrev S256x1 : Shape := ⟨2, ![256, 1]⟩
abbrev S256x512 : Shape := ⟨2, ![256, 512]⟩
abbrev S256x1024 : Shape := ⟨2, ![256, 1024]⟩
abbrev S256x128 : Shape := ⟨2, ![256, 128]⟩

abbrev nBuf : Space → Nat
  | .hbm => 12
  | .vmem => 18
  | .smem => 0
  | _ => 0

abbrev bufTy : (tb : Table) → Fin (tcTables nBuf tb) → BufTy
  | .hbm, ⟨0, _⟩ => ⟨S2048x768, .f32⟩
  | .hbm, ⟨1, _⟩ => ⟨S8x768, .f32⟩
  | .hbm, ⟨2, _⟩ => ⟨S8x128x768, .f32⟩
  | .hbm, ⟨3, _⟩ => ⟨S8x128, .f32⟩
  | .hbm, ⟨4, _⟩ => ⟨S8x128x128, .f32⟩
  | .hbm, ⟨5, _⟩ => ⟨S8x128, .f32⟩
  | .hbm, ⟨6, _⟩ => ⟨S1024x768, .f32⟩
  | .hbm, ⟨7, _⟩ => ⟨S8x128x128, .f32⟩
  | .hbm, ⟨8, _⟩ => ⟨S1024x128, .f32⟩
  | .hbm, ⟨9, _⟩ => ⟨S1x1024, .f32⟩
  | .hbm, ⟨10, _⟩ => ⟨S2048x128, .f32⟩
  | .hbm, ⟨11, _⟩ => ⟨S2048x8, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S8x768, .f32⟩
  | .local _ .vmem, ⟨9, _⟩ => ⟨S512x768, .f32⟩
  | .local _ .vmem, ⟨10, _⟩ => ⟨S512x768, .f32⟩
  | .local _ .vmem, ⟨11, _⟩ => ⟨S1x1024, .f32⟩
  | .local _ .vmem, ⟨12, _⟩ => ⟨S1024x128, .f32⟩
  | .local _ .vmem, ⟨13, _⟩ => ⟨S8x128, .f32⟩
  | .local _ .vmem, ⟨14, _⟩ => ⟨S1024x128, .f32⟩
  | .local _ .vmem, ⟨15, _⟩ => ⟨S1024x128, .f32⟩
  | .local _ .vmem, ⟨16, _⟩ => ⟨S1024x8, .f32⟩
  | .local _ .vmem, ⟨17, _⟩ => ⟨S1024x8, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x8 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S2048x768 : Shape := ⟨2, ![2048, 768]⟩
abbrev S8x768 : Shape := ⟨2, ![8, 768]⟩
abbrev S8x128x768 : Shape := ⟨3, ![8, 128, 768]⟩
abbrev S8x128 : Shape := ⟨2, ![8, 128]⟩
abbrev S8x128x128 : Shape := ⟨3, ![8, 128, 128]⟩
abbrev S768x8 : Shape := ⟨2, ![768, 8]⟩
abbrev S2048x8 : Shape := ⟨2, ![2048, 8]⟩
abbrev S2048x2 : Shape := ⟨2, ![2048, 2]⟩
abbrev S_ : Shape := ⟨0, ![]⟩
abbrev S2048 : Shape := ⟨1, ![2048]⟩
abbrev S2048x1 : Shape := ⟨2, ![2048, 1]⟩
abbrev S2048x2x1 : Shape := ⟨3, ![2048, 2, 1]⟩
abbrev S2048x2x2 : Shape := ⟨3, ![2048, 2, 2]⟩
abbrev S2048x8x128 : Shape := ⟨3, ![2048, 8, 128]⟩
abbrev S1x8x128 : Shape := ⟨3, ![1, 8, 128]⟩
abbrev S8x128x2048 : Shape := ⟨3, ![8, 128, 2048]⟩
abbrev S2048x8x1 : Shape := ⟨3, ![2048, 8, 1]⟩
abbrev S2048x128 : Shape := ⟨2, ![2048, 128]⟩

abbrev nBuf : Space → Nat
  | .hbm => 70
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S8x768, .f32⟩
  | .hbm, ⟨2, _⟩ => ⟨S8x128x768, .f32⟩
  | .hbm, ⟨3, _⟩ => ⟨S8x128, .f32⟩
  | .hbm, ⟨4, _⟩ => ⟨S8x128x128, .f32⟩
  | .hbm, ⟨5, _⟩ => ⟨S8x128, .f32⟩
  | .hbm, ⟨6, _⟩ => ⟨S768x8, .f32⟩
  | .hbm, ⟨7, _⟩ => ⟨S2048x8, .f32⟩
  | .hbm, ⟨8, _⟩ => ⟨S2048x2, .f32⟩
  | .hbm, ⟨9, _⟩ => ⟨S2048x2, .i32⟩
  | .hbm, ⟨10, _⟩ => ⟨S_, .f32⟩
  | .hbm, ⟨11, _⟩ => ⟨S2048x8, .f32⟩
  | .hbm, ⟨12, _⟩ => ⟨S2048, .i32⟩
  | .hbm, ⟨13, _⟩ => ⟨S2048x1, .i32⟩
  | .hbm, ⟨14, _⟩ => ⟨S_, .i32⟩
  | .hbm, ⟨15, _⟩ => ⟨S2048x1, .i32⟩
  | .hbm, ⟨16, _⟩ => ⟨S2048x1, .i1⟩
  | .hbm, ⟨17, _⟩ => ⟨S_, .i32⟩
  | .hbm, ⟨18, _⟩ => ⟨S2048x1, .i32⟩
  | .hbm, ⟨19, _⟩ => ⟨S2048x1, .i32⟩
  | .hbm, ⟨20, _⟩ => ⟨S2048x1, .i32⟩
  | .hbm, ⟨21, _⟩ => ⟨S_, .i32⟩
  | .hbm, ⟨22, _⟩ => ⟨S2048x2, .i32⟩
  | .hbm, ⟨23, _⟩ => ⟨S2048x2, .i1⟩
  | .hbm, ⟨24, _⟩ => ⟨S_, .i32⟩
  | .hbm, ⟨25, _⟩ => ⟨S2048x2, .i32⟩
  | .hbm, ⟨26, _⟩ => ⟨S2048x2, .i32⟩
  | .hbm, ⟨27, _⟩ => ⟨S2048x2, .i32⟩
  | .hbm, ⟨28, _⟩ => ⟨S2048x2, .i32⟩
  | .hbm, ⟨29, _⟩ => ⟨S2048x2x1, .i32⟩
  | .hbm, ⟨30, _⟩ => ⟨S2048x2x1, .i32⟩
  | .hbm, ⟨31, _⟩ => ⟨S2048x2x2, .i32⟩
  | .hbm, ⟨32, _⟩ => ⟨S2048x8, .f32⟩
  | .hbm, ⟨33, _⟩ => ⟨S_, .f32⟩
  | .hbm, ⟨34, _⟩ => ⟨S2048, .f32⟩
  | .hbm, ⟨35, _⟩ => ⟨S_, .f32⟩
  | .hbm, ⟨36, _⟩ => ⟨S2048, .f32⟩
  | .hbm, ⟨37, _⟩ => ⟨S2048, .f32⟩
  | .hbm, ⟨38, _⟩ => ⟨S2048x1, .f32⟩
  | .hbm, ⟨39, _⟩ => ⟨S2048x8, .f32⟩
  | .hbm, ⟨40, _⟩ => ⟨S2048x8, .f32⟩
  | .hbm, ⟨41, _⟩ => ⟨S2048x8, .f32⟩
  | .hbm, ⟨42, _⟩ => ⟨S_, .f32⟩
  | .hbm, ⟨43, _⟩ => ⟨S2048, .f32⟩
  | .hbm, ⟨44, _⟩ => ⟨S2048x1, .f32⟩
  | .hbm, ⟨45, _⟩ => ⟨S2048x8, .f32⟩
  | .hbm, ⟨46, _⟩ => ⟨S2048x8, .f32⟩
  | .hbm, ⟨47, _⟩ => ⟨S2048x8x128, .f32⟩
  | .hbm, ⟨48, _⟩ => ⟨S1x8x128, .f32⟩
  | .hbm, ⟨49, _⟩ => ⟨S2048x8x128, .f32⟩
  | .hbm, ⟨50, _⟩ => ⟨S2048x8x128, .f32⟩
  | .hbm, ⟨51, _⟩ => ⟨S_, .f32⟩
  | .hbm, ⟨52, _⟩ => ⟨S2048x8x128, .f32⟩
  | .hbm, ⟨53, _⟩ => ⟨S2048x8x128, .f32⟩
  | .hbm, ⟨54, _⟩ => ⟨S2048x8x128, .f32⟩
  | .hbm, ⟨55, _⟩ => ⟨S_, .f32⟩
  | .hbm, ⟨56, _⟩ => ⟨S2048x8x128, .f32⟩
  | .hbm, ⟨57, _⟩ => ⟨S2048x8x128, .f32⟩
  | .hbm, ⟨58, _⟩ => ⟨S2048x8x128, .f32⟩
  | .hbm, ⟨59, _⟩ => ⟨S2048x8x128, .f32⟩
  | .hbm, ⟨60, _⟩ => ⟨S8x128x2048, .f32⟩
  | .hbm, ⟨61, _⟩ => ⟨S2048x8x128, .f32⟩
  | .hbm, ⟨62, _⟩ => ⟨S1x8x128, .f32⟩
  | .hbm, ⟨63, _⟩ => ⟨S2048x8x128, .f32⟩
  | .hbm, ⟨64, _⟩ => ⟨S2048x8x128, .f32⟩
  | .hbm, ⟨65, _⟩ => ⟨S2048x8x1, .f32⟩
  | .hbm, ⟨66, _⟩ => ⟨S2048x8x128, .f32⟩
  | .hbm, ⟨67, _⟩ => ⟨S2048x8x128, .f32⟩
  | .hbm, ⟨68, _⟩ => ⟨S_, .f32⟩
  | .hbm, ⟨69, _⟩ => ⟨S2048x128, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_values : Ref sig .tc := ⟨.hbm, 8, rfl⟩
abbrev main_indices : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Proof.Gate.lean ====
/-
  One row of the gating, as mathematics over the extended reals: the two greatest of eight logits, the
  weights a softmax gives them, and the two ways the programs compute them.
-/
module

public import Idealize.ShloMosaic.Lib.Claim
public import Idealize.ShloMosaic.Lib.IdealHost
public import Idealize.ShloMosaic.Lib.PlanTiles.StableSort

@[expose] public section

noncomputable section

namespace Cert.Moe

open Idealize.ShloMosaic

/-- `p` is the first position of the row's greatest entry, and `q` the first position of the greatest among the others. -/
structure IsTop2 (l : Fin 8 → EReal) (p q : Fin 8) : Prop where
  max_p : ∀ k, l k ≤ l p
  first_p : ∀ k, k < p → l k < l p
  ne : q ≠ p
  max_q : ∀ k, k ≠ p → l k ≤ l q
  first_q : ∀ k, k ≠ p → k < q → l k < l q

/-- The greater logit's weight is `1 / (1 + E)` and the other's `E / (1 + E)`, with `E` the exponential of their difference. -/
def expDiff (l : Fin 8 → EReal) (p q : Fin 8) : EReal := Ideal.exp (l q - l p)

/-- The row of gate weights, from the positions of the two greatest logits. -/
def gateOf (l : Fin 8 → EReal) (p q : Fin 8) (e : Fin 8) : EReal :=
  (if e = p then Ideal.div 1 (1 + expDiff l p q) else 0) + (if e = q then Ideal.div (expDiff l p q) (1 + expDiff l p q) else 0)

/-! ## The stable sort finds the two greatest -/

/-- How many entries of the row are less than entry `k`. -/
def rank (l : Fin 8 → EReal) (k : Fin 8) : ℕ := (Finset.univ.filter fun j => l j < l k).card

/-- Ranks compare as the entries do. -/
theorem rank_lt_iff (l : Fin 8 → EReal) (a b : Fin 8) : rank l a < rank l b ↔ l a < l b := by
  constructor
  · intro h
    by_contra hn
    refine absurd h (not_lt.mpr (Finset.card_le_card fun j hj => ?_))
    rw [Finset.mem_filter] at hj ⊢
    exact ⟨hj.1, lt_of_lt_of_le hj.2 (not_lt.mp hn)⟩
  · intro h
    refine Finset.card_lt_card ⟨fun j hj => ?_, fun hs => ?_⟩
    · rw [Finset.mem_filter] at hj ⊢
      exact ⟨hj.1, hj.2.trans h⟩
    · have := hs (Finset.mem_filter.mpr ⟨Finset.mem_univ a, h⟩)
      exact lt_irrefl _ (Finset.mem_filter.mp this).2

/-- Where the stable sort, greater first, puts the row's entries. -/
def sorted (l : Fin 8 → EReal) : Fin 8 → Fin 8 :=
  sortedFrom fun k k' => Ideal.cmpTotal .gt (l k) (l k') == 1#1

/-- The sort's comparison is the comparison of ranks. -/
theorem before_eq_rank (l : Fin 8 → EReal) :
    (fun k k' => Ideal.cmpTotal .gt (l k) (l k') == 1#1) = fun k k' => decide (rank l k' < rank l k) := by
  funext k k'
  have h := rank_lt_iff l k' k
  by_cases hlt : l k' < l k
  · rw [decide_eq_true (h.mpr hlt)]
    show (BitVec.ofBool (decide (l k' < l k)) == 1#1) = true
    rw [decide_eq_true hlt]; rfl
  · rw [decide_eq_false (fun hh => hlt (h.mp hh))]
    show (BitVec.ofBool (decide (l k' < l k)) == 1#1) = false
    rw [decide_eq_false hlt]; rfl

/-- Of two entries, the sort puts first the greater, or the one at the lower position when they are equal. -/
theorem sorted_lex (l : Fin 8 → EReal) (i j : Fin 8) (h : i < j) :
    l (sorted l j) < l (sorted l i) ∨ (l (sorted l i) = l (sorted l j) ∧ sorted l i < sorted l j) := by
  have hp := List.pairwise_iff_get.mp
    (PlanTiles.pairwise_stableSort_lex (rank l) (· < ·) (List.finRange 8) (List.pairwise_lt_finRange 8))
  have key : PlanTiles.Lex (rank l) (· < ·) (sorted l i) (sorted l j) := by
    unfold sorted
    rw [before_eq_rank]
    exact hp (i.cast (length_sortPositions 8 _).symm) (j.cast (length_sortPositions 8 _).symm) h
  rcases key with h1 | ⟨h1, h2⟩
  · exact Or.inl ((rank_lt_iff l _ _).mp h1)
  · refine Or.inr ⟨le_antisymm ?_ ?_, h2⟩
    · exact not_lt.mp fun hc => absurd ((rank_lt_iff l _ _).mpr hc) (by omega)
    · exact not_lt.mp fun hc => absurd ((rank_lt_iff l _ _).mpr hc) (by omega)

/-- The sort's first two positions hold the two greatest entries. -/
theorem sorted_isTop2 (l : Fin 8 → EReal) : IsTop2 l (sorted l 0) (sorted l 1) := by
  have inj : Function.Injective (sorted l) := sortedFrom_injective _
  have surj : Function.Surjective (sorted l) := sortedFrom_surjective _
  have pos : ∀ k, k ≠ sorted l 0 → ∃ i : Fin 8, 0 < i ∧ sorted l i = k := fun k hk => by
    obtain ⟨i, rfl⟩ := surj k
    exact ⟨i, Fin.pos_of_ne_zero fun h => hk (by rw [h]), rfl⟩
  have one : ∀ i : Fin 8, 0 < i → i ≠ 1 → 1 < i := by decide
  have le : ∀ i j : Fin 8, i < j → l (sorted l j) ≤ l (sorted l i) := fun i j hij => by
    rcases sorted_lex l i j hij with h | ⟨h, -⟩
    · exact h.le
    · exact h.ge
  have lt : ∀ i j : Fin 8, i < j → sorted l j < sorted l i → l (sorted l j) < l (sorted l i) := fun i j hij hlt => by
    rcases sorted_lex l i j hij with h | ⟨-, h⟩
    · exact h
    · exact absurd h hlt.asymm
  refine ⟨fun k => ?_, fun k hk => ?_, fun h => absurd (inj h) (by decide), fun k hk => ?_, fun k hk hkq => ?_⟩
  · by_cases hk : k = sorted l 0
    · rw [hk]
    · obtain ⟨i, hi, rfl⟩ := pos k hk
      exact le 0 i hi
  · obtain ⟨i, hi, rfl⟩ := pos k hk.ne
    exact lt 0 i hi hk
  · obtain ⟨i, hi, rfl⟩ := pos k hk
    by_cases h1 : i = 1
    · rw [h1]
    · exact le 1 i (one i hi h1)
  · obtain ⟨i, hi, rfl⟩ := pos k hk
    exact lt 1 i (one i hi fun h1 => absurd hkq (by rw [h1]; exact lt_irrefl _)) hkq

/-! ## The kernel's two rounds find them too -/

/-- A fold of `max` from `⊥` over a row is an entry that is at least every other. -/
theorem fold_max_eq (l : Fin 8 → EReal) (p : Fin 8) (h : ∀ k, l k ≤ l p) : Finset.fold max ⊥ l Finset.univ = l p :=
  le_antisymm (Finset.fold_max_le _ |>.mpr ⟨bot_le, fun k _ => h k⟩) (Finset.le_fold_max _ |>.mpr (Or.inr ⟨p, Finset.mem_univ p, le_rfl⟩))

/-- The signed minimum of a word with one not below it is the first word. -/
theorem minsi_of_le {a b : BitVec 32} (h : ¬ b.slt a = true) : IntOp.minsi a b = a := by
  show (if a.slt b then a else b) = a
  by_cases hab : a.slt b = true
  · exact if_pos hab
  · rw [if_neg hab]
    refine BitVec.eq_of_toInt_eq ?_
    simp only [BitVec.slt_iff_toInt_lt] at h hab
    omega

/-- A word that is not above any of those folded stays as it is when the fold is added to it. -/
theorem minsi_fold (w : BitVec 32) (f : Fin 8 → BitVec 32) (b : BitVec 32) (s : Finset (Fin 8)) (hb : ¬ b.slt w = true)
    (hf : ∀ k ∈ s, ¬ (f k).slt w = true) : IntOp.minsi w (Finset.fold IntOp.minsi b f s) = w := by
  induction s using Finset.induction with
  | empty => exact minsi_of_le hb
  | insert a s ha ih =>
    rw [Finset.fold_insert ha, ← Std.Associative.assoc (op := IntOp.minsi), minsi_of_le (hf a (Finset.mem_insert_self a s))]
    exact ih fun k hk => hf k (Finset.mem_insert_of_mem hk)

/-- The least position at which a condition holds, as the kernel computes it: the minimum of the positions where it
    holds, 8 standing in elsewhere. -/
theorem fold_first (P : Fin 8 → Prop) [DecidablePred P] (p : Fin 8) (hp : P p) (hlt : ∀ k, k < p → ¬ P k) :
    Finset.fold IntOp.minsi (2147483647#32) (fun x => if P x then BitVec.ofNat 32 x.val else 8#32) Finset.univ = BitVec.ofNat 32 p.val := by
  have hge : ∀ p k : Fin 8, ¬ k < p → ¬ (BitVec.ofNat 32 k.val).slt (BitVec.ofNat 32 p.val) = true := by decide
  have h8 : ∀ p : Fin 8, ¬ (8#32).slt (BitVec.ofNat 32 p.val) = true := by decide
  have hb : ∀ p : Fin 8, ¬ (2147483647#32).slt (BitVec.ofNat 32 p.val) = true := by decide
  rw [← Finset.insert_erase (Finset.mem_univ p), Finset.fold_insert (Finset.notMem_erase p _), if_pos hp]
  refine minsi_fold _ _ _ _ (hb p) fun k _ => ?_
  by_cases hk : P k
  · rw [if_pos hk]
    exact hge p k fun h => hlt k h hk
  · rw [if_neg hk]
    exact h8 p

/-- The row with the entry at `p` masked out. -/
def masked (l : Fin 8 → EReal) (p : Fin 8) : Fin 8 → EReal := fun k => if k = p then ⊥ else l k

section Rounds
variable {l : Fin 8 → EReal} {p q : Fin 8} (h : IsTop2 l p q)
include h

/-- The first round's maximum. -/
theorem IsTop2.fold_max : Finset.fold max ⊥ l Finset.univ = l p := fold_max_eq l p h.max_p

/-- The first round's position. -/
theorem IsTop2.fold_pos :
    Finset.fold IntOp.minsi (2147483647#32) (fun x => if l x = l p then BitVec.ofNat 32 x.val else 8#32) Finset.univ = BitVec.ofNat 32 p.val :=
  fold_first (fun x => l x = l p) p rfl fun k hk => (h.first_p k hk).ne

/-- The masked row's entry at `q` is the row's. -/
theorem IsTop2.masked_q : masked l p q = l q := if_neg h.ne

/-- The second round's maximum. -/
theorem IsTop2.fold_max2 : Finset.fold max ⊥ (masked l p) Finset.univ = l q := by
  rw [← h.masked_q]
  refine fold_max_eq _ q fun k => ?_
  rw [h.masked_q]
  unfold masked
  by_cases hk : k = p
  · rw [if_pos hk]; exact bot_le
  · rw [if_neg hk]; exact h.max_q k hk

/-- The second round's position, when no logit is `⊥`. -/
theorem IsTop2.fold_pos2 (hl : ∀ k, l k ≠ ⊥) :
    Finset.fold IntOp.minsi (2147483647#32) (fun x => if masked l p x = l q then BitVec.ofNat 32 x.val else 8#32) Finset.univ
      = BitVec.ofNat 32 q.val := by
  refine fold_first (fun x => masked l p x = l q) q h.masked_q fun k hk => ?_
  unfold masked
  by_cases hkp : k = p
  · rw [if_pos hkp]; exact (hl q).symm
  · rw [if_neg hkp]; exact (h.first_q k hkp hk).ne

end Rounds

/-! ## The reference's softmax of the scattered row -/

/-- The row the reference scatters: the two greatest at their positions, `⊥` elsewhere. -/
def spread (l : Fin 8 → EReal) (p q : Fin 8) : Fin 8 → EReal := fun k => if k = q then l q else if k = p then l p else ⊥

section Softmax
variable {l : Fin 8 → EReal} {p q : Fin 8} (h : IsTop2 l p q) (hl : ∀ k, ∃ a : ℝ, l k = a)
include h hl

/-- The scattered row's maximum. -/
theorem IsTop2.spread_max : Finset.fold max ⊥ (spread l p q) Finset.univ = l p := by
  have hp : spread l p q p = l p := by
    unfold spread; rw [if_neg h.ne.symm, if_pos rfl]
  rw [← hp]
  refine fold_max_eq _ p fun k => ?_
  rw [hp]
  unfold spread
  split_ifs
  · exact h.max_p q
  · exact le_rfl
  · exact bot_le

/-- The exponentials of the scattered row less its maximum. -/
theorem IsTop2.spread_exp (k : Fin 8) :
    Ideal.exp (spread l p q k - l p) = (if k = p then 1 else 0) + (if k = q then expDiff l p q else 0) := by
  obtain ⟨a, ha⟩ := hl p
  unfold spread expDiff
  by_cases hq : k = q
  · rw [if_pos hq, if_pos hq, if_neg (by rw [hq]; exact h.ne), zero_add]
  · rw [if_neg hq, if_neg hq, add_zero]
    by_cases hp : k = p
    · rw [if_pos hp, if_pos hp, ha, ← EReal.coe_sub, sub_self, Ideal.exp_coe, Real.exp_zero]; rfl
    · rw [if_neg hp, if_neg hp, ha, EReal.bot_sub, Ideal.exp_bot]

/-- Their sum. -/
theorem IsTop2.spread_sum : ∑ k, Ideal.exp (spread l p q k - l p) = 1 + expDiff l p q := by
  rw [Finset.sum_congr rfl fun k _ => h.spread_exp hl k, Finset.sum_add_distrib, Finset.sum_ite_eq', Finset.sum_ite_eq',
    if_pos (Finset.mem_univ _), if_pos (Finset.mem_univ _)]

/-- `E` is a positive real. -/
theorem expDiff_pos : ∃ E : ℝ, 0 < E ∧ expDiff l p q = E := by
  obtain ⟨a, ha⟩ := hl p
  obtain ⟨b, hb⟩ := hl q
  exact ⟨Real.exp (b - a), Real.exp_pos _, by unfold expDiff; rw [ha, hb, ← EReal.coe_sub, Ideal.exp_coe]⟩

/-- The softmax of the scattered row is the row of gate weights. -/
theorem IsTop2.softmax (e : Fin 8) :
    Ideal.div (Ideal.exp (spread l p q e - l p)) (∑ k, Ideal.exp (spread l p q k - l p)) = gateOf l p q e := by
  obtain ⟨E, hE, hEE⟩ := expDiff_pos h hl
  have hne : (1 : EReal) + expDiff l p q ≠ 0 := by
    rw [hEE, ← EReal.coe_one, ← EReal.coe_add, ← EReal.coe_zero]
    exact fun hc => absurd (EReal.coe_eq_coe_iff.mp hc) (by positivity)
  rw [h.spread_sum hl, h.spread_exp hl]
  unfold gateOf
  by_cases hp : e = p
  · rw [if_pos hp, if_pos hp, if_neg (fun hq => h.ne (hq.symm.trans hp)), if_neg (fun hq => h.ne (hq.symm.trans hp)), add_zero, add_zero]
  · rw [if_neg hp, if_neg hp, zero_add, zero_add]
    by_cases hq : e = q
    · rw [if_pos hq, if_pos hq]
    · rw [if_neg hq, if_neg hq]
      exact Ideal.zero_div hne

/-- A gate weight is a real that is not negative. -/
theorem IsTop2.gate_nonneg (e : Fin 8) : ∃ g : ℝ, 0 ≤ g ∧ gateOf l p q e = g := by
  obtain ⟨E, hE, hEE⟩ := expDiff_pos h hl
  have h1 : (1 : EReal) + expDiff l p q = ((1 + E : ℝ) : EReal) := by rw [hEE, EReal.coe_add, EReal.coe_one]
  have hpos : (0 : ℝ) ≤ 1 / (1 + E) := by positivity
  unfold gateOf
  rw [h1, Ideal.div_coe (by positivity), Ideal.div_coe (by positivity), one_mul, hEE, ← EReal.coe_mul]
  refine ⟨(if e = p then 1 / (1 + E) else 0) + (if e = q then E * (1 / (1 + E)) else 0), ?_, ?_⟩
  · split_ifs <;> positivity
  · split_ifs <;> simp only [EReal.coe_add, EReal.coe_zero]

end Softmax

end Cert.Moe

end
-- ==== Proof.Mix.lean ====
/-
  Two sums of the mixture, over the extended reals: each expert's gate weight, a real that is not negative, multiplied into
  the hidden layer before the second product (the kernel) or into the expert's output after it (the reference).
-/
module

public import Idealize.ShloMosaic.Lib.Claim
public import Idealize.ShloMosaic.Lib.Pointwise

@[expose] public section

noncomputable section

namespace Cert.Moe

open Idealize.ShloMosaic

/-- The word the programs write for minus infinity denotes `⊥`. -/
theorem negInf : Ideal.ofBits .f32 0xFF800000#32 = ⊥ := by simp [Ideal.ofBits, Ideal.ieee]

/-- The word the precondition writes for infinity denotes `⊤`. -/
theorem posInf : Ideal.ofBits .f32 0x7F800000#32 = ⊤ := by simp [Ideal.ofBits, Ideal.ieee]

/-- A real that is not negative goes through a sum of extended reals. -/
theorem mul_sum_of_nonneg {n : ℕ} (g : ℝ) (hg : 0 ≤ g) (f : Fin n → EReal) : (g : EReal) * ∑ k, f k = ∑ k, (g : EReal) * f k := by
  refine Finset.induction_on (Finset.univ : Finset (Fin n)) (by simp) fun a s ha ih => ?_
  rw [Finset.sum_insert ha, Finset.sum_insert ha,
    EReal.left_distrib_of_nonneg_of_ne_top (EReal.coe_nonneg.mpr hg) (EReal.coe_ne_top g), ih]

/-- One expert's share: its weight times its output is the weighted hidden layer's product plus the weighted bias. -/
theorem expert_share {n : ℕ} (g : ℝ) (hg : 0 ≤ g) (a w : Fin n → EReal) (b : EReal) :
    (g : EReal) * (∑ k, w k * a k + b) = ∑ k, a k * (g : EReal) * w k + (g : EReal) * b := by
  rw [EReal.left_distrib_of_nonneg_of_ne_top (EReal.coe_nonneg.mpr hg) (EReal.coe_ne_top g), mul_sum_of_nonneg g hg]
  refine congrArg (· + _) (Finset.sum_congr rfl fun k _ => ?_)
  rw [mul_comm (a k) (g : EReal), mul_assoc, mul_comm (a k) (w k)]

/-- The whole mixture at one output column: the kernel's one product over the 1024 hidden columns, plus its product with the
    second bias, is the reference's weighted sum over the experts. -/
theorem mixture (g : Fin 8 → EReal) (hg : ∀ e, ∃ r : ℝ, 0 ≤ r ∧ g e = r) (a w : Fin 8 → Fin 128 → EReal) (b : Fin 8 → EReal)
    (f : Fin 1024 → EReal) (hf : ∀ (e : Fin 8) (k : Fin 128), f ⟨e.val * 128 + k.val, by omega⟩ = a e k * g e * w e k) :
    ∑ k, f k + ∑ e, g e * b e = ∑ e, g e * (∑ k, w e k * a e k + b e) := by
  rw [Fin.sum_univ_tiles 8 128 rfl f, ← Finset.sum_add_distrib]
  refine Finset.sum_congr rfl fun e _ => ?_
  obtain ⟨r, hr, he⟩ := hg e
  rw [he, expert_share r hr]
  refine congrArg (· + _) (Finset.sum_congr rfl fun k _ => ?_)
  rw [hf e k, he]

/-- A sum of products of reals is a real. -/
theorem sum_mul_real {n : ℕ} (a b : Fin n → EReal) (ha : ∀ k, ∃ r : ℝ, a k = r) (hb : ∀ k, ∃ r : ℝ, b k = r) :
    ∃ r : ℝ, ∑ k, a k * b k = r := by
  choose u hu using ha
  choose v hv using hb
  refine ⟨∑ k, u k * v k, ?_⟩
  rw [Finset.sum_congr rfl fun k _ => show a k * b k = ((u k * v k : ℝ) : EReal) by rw [hu, hv, EReal.coe_mul]]
  exact (map_sum (⟨⟨Real.toEReal, EReal.coe_zero⟩, EReal.coe_add⟩ : ℝ →+ EReal) _ _).symm

/-- The exact GELU as the kernel writes it and as the reference does, whatever the two constants denote. -/
theorem gelu (x h c : EReal) : h * x * (1 + Ideal.erf (x * c)) = h * x * Ideal.erfc (-x * c) := by
  rw [neg_mul, Ideal.erfc_neg]

end Cert.Moe

end
-- ==== Proof.Tile.lean ====
/-
  One tile of the kernel: the gate weights and the mixture it computes from 256 rows of the input, read at an index.
-/
module

public import proofs.«01_k».proof.Proof.Gen.KernelIdeal.Frame
public import Idealize.ShloMosaic.Lib.Pipeline.ValueKit
public import proofs.«01_k».proof.Proof.Gate
public import proofs.«01_k».proof.Proof.Mix

@[expose] public section

set_option maxRecDepth 16384

noncomputable section

open Idealize.ShloMosaic Idealize.ShloMosaic.TcCoe Idealize.SL.Sem

namespace Cert.Moe.Tile

open Cert.KernelIdeal Cert.KernelIdeal.Gen

/-- The gate weights of a tile. -/
def gate (wg : Vec Ideal S8x768 .f32) (xt : Vec Ideal S256x768 .f32) : FVec Ideal S256x8 .f32 :=
  k0_pay14 (iota .tc S256x8 32 [1] iota_S256x8_d1_w32) (k0_pay8 wg xt) (k0_pay11 wg xt) (k0_pay12 wg xt) k0_pay13

/-- The hidden layer of a tile: all experts side by side, activated. -/
def hid (w1a w1b : Vec Ideal S512x768 .f32) (b1 : Vec Ideal S1x1024 .f32) (xt : Vec Ideal S256x768 .f32) : FVec Ideal S256x1024 .f32 :=
  k0_pay15 (k0_pay2 w1a) (k0_pay3 w1b) (k0_pay4 b1) xt

/-- The mixture of a tile, from its gate weights and its hidden layer. -/
def mix (w2 : Vec Ideal S1024x128 .f32) (b2 : Vec Ideal S8x128 .f32) (g : FVec Ideal S256x8 .f32) (h : FVec Ideal S256x1024 .f32) :
    FVec Ideal S256x128 .f32 :=
  k0_pay54 (k0_pay5 w2) b2 g h
    (mulf (extractStridedSlice S256x128 ![0, 0] h slices_S256x1024_o0_0_S256x128)
      (broadcastTo S256x128 (extractStridedSlice S256x1 ![0, 0] g slices_S256x8_o0_0_S256x1) broadcasts_S256x1_S256x128))
    (mulf (extractStridedSlice S256x128 ![0, 128] h slices_S256x1024_o0_128_S256x128)
      (broadcastTo S256x128 (extractStridedSlice S256x1 ![0, 1] g slices_S256x8_o0_1_S256x1) broadcasts_S256x1_S256x128))
    (mulf (extractStridedSlice S256x128 ![0, 256] h slices_S256x1024_o0_256_S256x128)
      (broadcastTo S256x128 (extractStridedSlice S256x1 ![0, 2] g slices_S256x8_o0_2_S256x1) broadcasts_S256x1_S256x128))
    (mulf (extractStridedSlice S256x128 ![0, 384] h slices_S256x1024_o0_384_S256x128)
      (broadcastTo S256x128 (extractStridedSlice S256x1 ![0, 3] g slices_S256x8_o0_3_S256x1) broadcasts_S256x1_S256x128))
    (mulf (extractStridedSlice S256x128 ![0, 512] h slices_S256x1024_o0_512_S256x128)
      (broadcastTo S256x128 (extractStridedSlice S256x1 ![0, 4] g slices_S256x8_o0_4_S256x1) broadcasts_S256x1_S256x128))

/-- The output of a tile. -/
abbrev out (wg : Vec Ideal S8x768 .f32) (w1a w1b : Vec Ideal S512x768 .f32) (b1 : Vec Ideal S1x1024 .f32) (w2 : Vec Ideal S1024x128 .f32)
    (b2 : Vec Ideal S8x128 .f32) (xt : Vec Ideal S256x768 .f32) : FVec Ideal S256x128 .f32 :=
  mix w2 b2 (gate wg xt) (hid w1a w1b b1 xt)

section same

variable (wg : Vec Ideal S8x768 .f32) (w1a w1b : Vec Ideal S512x768 .f32) (b1 : Vec Ideal S1x1024 .f32) (w2 : Vec Ideal S1024x128 .f32)
  (b2 : Vec Ideal S8x128 .f32) (x0 x1 x2 x3 xt : Vec Ideal S256x768 .f32)

/-- Tile 1's first position is the one of tile 0. -/
theorem pay26_eq : k0_pay26 wg xt = k0_pay8 wg xt := rfl

/-- Tile 1's second position is the one of tile 0. -/
theorem pay29_eq : k0_pay29 wg xt = k0_pay11 wg xt := rfl

/-- Tile 1's exponential is the one of tile 0. -/
theorem pay30_eq : k0_pay30 wg xt = k0_pay12 wg xt := rfl

/-- Tile 2's first position is the one of tile 0. -/
theorem pay42_eq : k0_pay42 wg xt = k0_pay8 wg xt := rfl

/-- Tile 2's second position is the one of tile 0. -/
theorem pay45_eq : k0_pay45 wg xt = k0_pay11 wg xt := rfl

/-- Tile 2's exponential is the one of tile 0. -/
theorem pay46_eq : k0_pay46 wg xt = k0_pay12 wg xt := rfl

/-- Tile 3's first position is the one of tile 0. -/
theorem pay57_eq : k0_pay57 wg xt = k0_pay8 wg xt := rfl

/-- Tile 3's second position is the one of tile 0. -/
theorem pay60_eq : k0_pay60 wg xt = k0_pay11 wg xt := rfl

/-- Tile 3's exponential is taken with its gate. -/
theorem pay61_eq : exp (k0_pay61 wg xt) = k0_pay12 wg xt := rfl

/-- Tile 0's gate weights. -/
theorem pay79_eq : k0_pay79 x0 x1 x2 x3 wg w1a w1b b1 w2 b2 = gate (View.ld wg r0_0) (View.ld x0 r0_5) := by
  unfold k0_pay79 k0_pay70 k0_pay75 k0_pay76 k0_pay77 k0_pay78 gate
  rfl

/-- Tile 1's gate weights. -/
theorem pay84_eq : k0_pay84 x0 x1 x2 x3 wg w1a w1b b1 w2 b2 = gate (View.ld wg r0_0) (View.ld x1 r0_5) := by
  unfold k0_pay84 k0_pay80 k0_pay81 k0_pay82 k0_pay83 gate
  rw [pay26_eq, pay29_eq, pay30_eq]
  rfl

/-- Tile 2's gate weights. -/
theorem pay89_eq : k0_pay89 x0 x1 x2 x3 wg w1a w1b b1 w2 b2 = gate (View.ld wg r0_0) (View.ld x2 r0_5) := by
  unfold k0_pay89 k0_pay85 k0_pay86 k0_pay87 k0_pay88 gate
  rw [pay42_eq, pay45_eq, pay46_eq]
  rfl

/-- Tile 3's gate weights. -/
theorem pay94_eq : k0_pay94 x0 x1 x2 x3 wg w1a w1b b1 w2 b2 = gate (View.ld wg r0_0) (View.ld x3 r0_5) := by
  unfold k0_pay94 k0_pay90 k0_pay91 k0_pay92 k0_pay93 gate
  rw [pay57_eq, pay60_eq, ← pay61_eq]
  rfl

end same

/-- The offsets of a whole block. -/
theorem zero2 : (![0, 0] : Fin 2 → ℕ) = fun _ => 0 := by
  funext a
  fin_cases a <;> rfl

/-- The block of gate weights a grid point leaves: one tile's for each of its four tiles. -/
theorem out11_eq (x0 x1 x2 x3 : Vec Ideal S256x768 .f32) (wg : Vec Ideal S8x768 .f32) (w1a w1b : Vec Ideal S512x768 .f32)
    (b1 : Vec Ideal S1x1024 .f32) (w2 : Vec Ideal S1024x128 .f32) (b2 : Vec Ideal S8x128 .f32) :
    out0_11 x0 x1 x2 x3 wg w1a w1b b1 w2 b2
      = View.canon [⟨r0_13, gate wg x3⟩, ⟨r0_11, gate wg x2⟩,
          ⟨r0_9, gate wg x1⟩, ⟨r0_7, gate wg x0⟩] := by
  unfold out0_11
  rw [pay94_eq, pay89_eq, pay84_eq, pay79_eq]
  rw [show View.ld wg r0_0 = wg from View.ld_unit_zero zero2 _ _, show View.ld x0 r0_5 = x0 from View.ld_unit_zero zero2 _ _, show View.ld x1 r0_5 = x1 from View.ld_unit_zero zero2 _ _, show View.ld x2 r0_5 = x2 from View.ld_unit_zero zero2 _ _, show View.ld x3 r0_5 = x3 from View.ld_unit_zero zero2 _ _]

/-- The block of outputs a grid point leaves: one tile's for each of its four tiles. -/
theorem out10_eq (x0 x1 x2 x3 : Vec Ideal S256x768 .f32) (wg : Vec Ideal S8x768 .f32) (w1a w1b : Vec Ideal S512x768 .f32)
    (b1 : Vec Ideal S1x1024 .f32) (w2 : Vec Ideal S1024x128 .f32) (b2 : Vec Ideal S8x128 .f32) :
    out0_10 x0 x1 x2 x3 wg w1a w1b b1 w2 b2
      = View.canon [
          ⟨r0_12, out wg w1a w1b b1 w2 b2 x3⟩,
          ⟨r0_10, out wg w1a w1b b1 w2 b2 x2⟩,
          ⟨r0_8, out wg w1a w1b b1 w2 b2 x1⟩,
          ⟨r0_6, out wg w1a w1b b1 w2 b2 x0⟩] := by
  have h0 := pay79_eq wg w1a w1b b1 w2 b2 x0 x1 x2 x3
  have h1 := pay84_eq wg w1a w1b b1 w2 b2 x0 x1 x2 x3
  have h2 := pay89_eq wg w1a w1b b1 w2 b2 x0 x1 x2 x3
  have h3 := pay94_eq wg w1a w1b b1 w2 b2 x0 x1 x2 x3
  unfold k0_pay79 at h0
  unfold k0_pay84 at h1
  unfold k0_pay89 at h2
  unfold k0_pay94 at h3
  unfold out0_10 k0_pay79 k0_pay84 k0_pay89 k0_pay94 k0_pay16 k0_pay17 k0_pay18 k0_pay19 k0_pay20 k0_pay21 k0_pay22 k0_pay33 k0_pay34 k0_pay35 k0_pay36 k0_pay37 k0_pay38
    k0_pay49 k0_pay50 k0_pay51 k0_pay52 k0_pay53 k0_pay64 k0_pay65 k0_pay66 k0_pay67 k0_pay68 k0_pay69 k0_pay71 k0_pay72 k0_pay73 k0_pay74
  dsimp only
  rw [h0, h1, h2, h3]
  rw [show View.ld wg r0_0 = wg from View.ld_unit_zero zero2 _ _, show View.ld w1a r0_1 = w1a from View.ld_unit_zero zero2 _ _, show View.ld w1b r0_1 = w1b from View.ld_unit_zero zero2 _ _, show View.ld b1 r0_2 = b1 from View.ld_unit_zero zero2 _ _, show View.ld w2 r0_3 = w2 from View.ld_unit_zero zero2 _ _, show View.ld b2 r0_4 = b2 from View.ld_unit_zero zero2 _ _, show View.ld x0 r0_5 = x0 from View.ld_unit_zero zero2 _ _, show View.ld x1 r0_5 = x1 from View.ld_unit_zero zero2 _ _, show View.ld x2 r0_5 = x2 from View.ld_unit_zero zero2 _ _, show View.ld x3 r0_5 = x3 from View.ld_unit_zero zero2 _ _]
  rfl

/-- A word compared with the word of a position: whether the positions are equal. -/
theorem cmp_ofNat (e p : Fin 8) : IntOp.cmpi .eq (BitVec.ofNat 32 e.val) (BitVec.ofNat 32 p.val) = if e = p then 1#1 else 0#1 := by
  revert e p; decide

section gate

variable (wg : Vec Ideal S8x768 .f32) (xt : Vec Ideal S256x768 .f32) (r : Fin 256)

/-- The logits of a tile's row. -/
abbrev lgt (e : Fin 8) : EReal := ∑ k : Fin 768, xt (ix2 r k) * wg (ix2 e k)

/-- The kernel's logits are the row's. -/
theorem pay6_at (e : Fin 8) : k0_pay6 wg xt (ix2 r e) = lgt wg xt r e := by
  unfold k0_pay6; pointwise

/-- The greatest logit. -/
theorem pay7_at : k0_pay7 wg xt (ix2 r (0 : Fin 1)) = lgt wg xt r (sorted (lgt wg xt r) 0) := by
  unfold k0_pay7; pointwise
  simp only [pay6_at, negInf]
  exact (sorted_isTop2 _).fold_max

/-- Its position. -/
theorem pay8_at : k0_pay8 wg xt (ix2 r (0 : Fin 1)) = BitVec.ofNat 32 (sorted (lgt wg xt r) 0).val := by
  unfold k0_pay8; pointwise
  simp only [pay6_at, pay7_at]
  exact (sorted_isTop2 _).fold_pos

/-- The logits with the greatest masked out. -/
theorem pay9_at (e : Fin 8) : k0_pay9 wg xt (ix2 r e) = masked (lgt wg xt r) (sorted (lgt wg xt r) 0) e := by
  unfold k0_pay9; pointwise
  rw [pay6_at, pay8_at, cmp_ofNat, negInf]
  unfold masked
  split_ifs <;> rfl

/-- The second greatest logit. -/
theorem pay10_at : k0_pay10 wg xt (ix2 r (0 : Fin 1)) = lgt wg xt r (sorted (lgt wg xt r) 1) := by
  unfold k0_pay10; pointwise
  simp only [pay9_at, negInf]
  exact (sorted_isTop2 _).fold_max2

variable (hl : ∀ e, ∃ a : ℝ, lgt wg xt r e = a)
include hl

/-- Its position. -/
theorem pay11_at : k0_pay11 wg xt (ix2 r (0 : Fin 1)) = BitVec.ofNat 32 (sorted (lgt wg xt r) 1).val := by
  unfold k0_pay11; pointwise
  simp only [pay9_at, pay10_at]
  exact (sorted_isTop2 _).fold_pos2 fun k => by
    obtain ⟨a, h⟩ := hl k
    rw [h]
    exact EReal.coe_ne_bot a

/-- The gate weight of expert `e` in the tile's row `r`, the row's logits being reals. -/
theorem gate_at (e : Fin 8) : gate wg xt (ix2 r e) = gateOf (lgt wg xt r) (sorted (lgt wg xt r) 0) (sorted (lgt wg xt r) 1) e := by
  unfold gate k0_pay14 k0_pay13 k0_pay12; pointwise
  rw [pay7_at, pay8_at, pay10_at, pay11_at wg xt r hl, cmp_ofNat, cmp_ofNat]
  unfold gateOf expDiff
  congr 1 <;> split_ifs <;> rfl

end gate

/-- The mixture, its eight scaled slices read as one row of hidden units. -/
theorem mix_sum (w2 : Vec Ideal S1024x128 .f32) (b2 : Vec Ideal S8x128 .f32) (g : FVec Ideal S256x8 .f32) (h : FVec Ideal S256x1024 .f32)
    (r : Fin 256) (o : Fin 128) :
    mix w2 b2 g h (ix2 r o)
      = ∑ x : Fin 1024, h (ix2 r x) * g (ix2 r (⟨x.val / 128, by omega⟩ : Fin 8)) * w2 (ix2 x o)
        + ∑ e : Fin 8, g (ix2 r e) * b2 (ix2 e o) := by
  unfold mix k0_pay54 k0_pay5; pointwise
  refine congrArg (· + _) (Finset.sum_congr rfl fun x _ => congrArg (· * _) ?_)
  have hx := x.isLt
  split_ifs <;> refine congrArg₂ (· * ·) (congrArg h ?_) (congrArg g ?_) <;> blk_ext []

/-- The activation of the reference, at one element. -/
abbrev gel (h : EReal) : EReal := Ideal.ofBits .f32 0x3F000000#32 * h * Ideal.erfc (-h * Ideal.ofBits .f32 0x3F3504F3#32)

/-- Hidden unit `x` of a tile's row, its weight row and bias given. -/
theorem hid_at (w1a w1b : Vec Ideal S512x768 .f32) (b1 : Vec Ideal S1x1024 .f32) (xt : Vec Ideal S256x768 .f32) (r : Fin 256) (x : Fin 1024)
    (W : Fin 768 → EReal) (ha : ∀ (h : x.val < 512) d, w1a (ix2 ⟨x.val, h⟩ d) = W d)
    (hb : ∀ (h : x.val - 512 < 512) d, ¬ x.val < 512 → w1b (ix2 ⟨x.val - 512, h⟩ d) = W d) :
    hid w1a w1b b1 xt (ix2 r x) = gel (∑ d : Fin 768, xt (ix2 r d) * W d + b1 (ix2 (0 : Fin 1) x)) := by
  unfold hid k0_pay15 k0_pay2 k0_pay3 k0_pay4; pointwise
  have e : (if h : x.val < 512 then ∑ d : Fin 768, xt (ix2 r d) * w1a (ix2 ⟨x.val, h⟩ d)
      else ∑ d : Fin 768, xt (ix2 r d) * w1b (ix2 ⟨x.val - 512, by omega⟩ d)) = ∑ d : Fin 768, xt (ix2 r d) * W d := by
    split_ifs with h
    · exact Finset.sum_congr rfl fun d _ => by rw [ha h d]
    · exact Finset.sum_congr rfl fun d _ => by rw [hb (by omega) d h]
  rw [e]
  exact gelu _ _ _

/-- The output of a tile at row `r` and column `o`: the reference's mixture over that row, the tile's weights being the reference's laid out flat. -/
theorem out_at (wg : Vec Ideal S8x768 .f32) (w1a w1b : Vec Ideal S512x768 .f32) (b1 : Vec Ideal S1x1024 .f32) (w2 : Vec Ideal S1024x128 .f32)
    (b2 : Vec Ideal S8x128 .f32) (xt : Vec Ideal S256x768 .f32) (r : Fin 256) (o : Fin 128)
    (hl : ∀ e, ∃ a : ℝ, lgt wg xt r e = a)
    (W1 : Fin 8 → Fin 128 → Fin 768 → EReal) (B1 : Fin 8 → Fin 128 → EReal) (W2 : Fin 8 → Fin 128 → EReal)
    (ha : ∀ (e : Fin 8) (k : Fin 128) (h : e.val * 128 + k.val < 512) d, w1a (ix2 ⟨e.val * 128 + k.val, h⟩ d) = W1 e k d)
    (hb : ∀ (e : Fin 8) (k : Fin 128) (h : e.val * 128 + k.val - 512 < 512) d, ¬ e.val * 128 + k.val < 512 →
      w1b (ix2 ⟨e.val * 128 + k.val - 512, h⟩ d) = W1 e k d)
    (hB : ∀ (e : Fin 8) (k : Fin 128), b1 (ix2 (0 : Fin 1) ⟨e.val * 128 + k.val, by omega⟩) = B1 e k)
    (hW : ∀ (e : Fin 8) (k : Fin 128), w2 (ix2 ⟨e.val * 128 + k.val, by omega⟩ o) = W2 e k) :
    out wg w1a w1b b1 w2 b2 xt (ix2 r o)
      = ∑ e : Fin 8, gateOf (lgt wg xt r) (sorted (lgt wg xt r) 0) (sorted (lgt wg xt r) 1) e
          * (∑ k : Fin 128, W2 e k * gel (∑ d : Fin 768, xt (ix2 r d) * W1 e k d + B1 e k) + b2 (ix2 e o)) := by
  unfold out
  rw [mix_sum]
  simp only [gate_at wg xt r hl]
  refine mixture _ (fun e => (sorted_isTop2 _).gate_nonneg hl e) (fun e k => gel (∑ d : Fin 768, xt (ix2 r d) * W1 e k d + B1 e k)) W2
    (fun e => b2 (ix2 e o)) _ fun e k => ?_
  have he : (⟨(e.val * 128 + k.val) / 128, by omega⟩ : Fin 8) = e := Fin.ext (by show (e.val * 128 + k.val) / 128 = e.val; omega)
  dsimp only
  rw [hid_at w1a w1b b1 xt r ⟨e.val * 128 + k.val, by omega⟩ (W1 e k) (ha e k) (hb e k), hB, hW, he]

end Cert.Moe.Tile

end
-- ==== Proof.Ref.lean ====
/-
  The reference's two results, element by element: its composed terms named in parts, then each part read at an index.
-/
module

public import Idealize.ShloMosaic.Lib.Claim
public import Idealize.ShloMosaic.Lib.Pointwise
public import Idealize.ShloMosaic.Lib.Pipeline.ValueKit
public import Idealize.ShloMosaic.Lib.ScatterToDense.RefScatter
public import proofs.«01_k».proof.Proof.Gen.ReferenceIdeal.Run
public import proofs.«01_k».proof.Proof.Gate
public import proofs.«01_k».proof.Proof.Mix

@[expose] public section

set_option maxRecDepth 16384

noncomputable section

namespace Cert.Moe.Ref
open Idealize.ShloMosaic Idealize.ShloMosaic.TcCoe Idealize.SL.Sem
open Cert.ReferenceIdeal Cert.ReferenceIdeal.Gen Cert.ReferenceIdeal.Value

/-- The two greatest logits of every row and their positions. -/
abbrev Top (lg : FVec Ideal S2048x8 .f32) := Host.topK S2048x2 1 (FloatOps.cmpfTotal .gt) lg sliceFits_S2048x8_S2048x2

/-- The index pairs of the scatter: the row, and the position in the row, each with its wrap of negative words. -/
def words (ind : IVec S2048x2 32) : IVec S2048x2x2 32 :=
  concatenate S2048x2x2 2 [⟨S2048x2x1, (broadcastInDim S2048x2x1 ![0, 1] bcast_S2048x2_S2048x2x1_0_1 (broadcastInDim S2048x2 ![0, 1] bcast_S2048x1_S2048x2_0_1 (select (cmpi .slt (broadcastInDim S2048x1 ![0] bcast_S2048_S2048x1_0 (iotaInDim S2048 32 0)) (broadcastInDim S2048x1 ![] bcast_S_S2048x1 (constantI S_ 32 0#32))) (addi (broadcastInDim S2048x1 ![0] bcast_S2048_S2048x1_0 (iotaInDim S2048 32 0)) (broadcastInDim S2048x1 ![] bcast_S_S2048x1 (constantI S_ 32 2048#32))) (broadcastInDim S2048x1 ![0] bcast_S2048_S2048x1_0 (iotaInDim S2048 32 0)))))⟩, ⟨S2048x2x1, (broadcastInDim S2048x2x1 ![0, 1] bcast_S2048x2_S2048x2x1_0_1 (select (cmpi .slt ind (broadcastInDim S2048x2 ![] bcast_S_S2048x2 (constantI S_ 32 0#32))) (addi ind (broadcastInDim S2048x2 ![] bcast_S_S2048x2 (constantI S_ 32 8#32))) ind))⟩] concatenates_S2048x2x1_S2048x2x1_S2048x2x2_d2

/-- The scattered rows: the two greatest logits at their positions, minus infinity elsewhere. -/
def scat (lg : FVec Ideal S2048x8 .f32) : FVec Ideal S2048x8 .f32 :=
  Host.scatter scatter_S2048x8_S2048x2x2_S2048x2_n_01_01_2 (fun _ b => b) (broadcastInDim S2048x8 ![] bcast_S_S2048x8 (constant S_ .f32 0xFF800000#32)) (words (Top lg).2) (Top lg).1

/-- The exponentials of a row less its maximum. -/
def less (sc : FVec Ideal S2048x8 .f32) : FVec Ideal S2048x8 .f32 :=
  Host.exp (subf sc (broadcastInDim S2048x8 ![0, 1] bcast_S2048x1_S2048x8_0_1 (broadcastInDim S2048x1 ![0] bcast_S2048_S2048x1_0 (maximumf (broadcastInDim S2048 ![] bcast_S_S2048 (constant S_ .f32 0xFF800000#32)) (Host.reduce FloatOps.maximumf sc (constant S_ .f32 0xFF800000#32) reducesTo_S2048x8_S2048_d1 h_S_)))))

/-- The gate weights. -/
def gates (lg : FVec Ideal S2048x8 .f32) : FVec Ideal S2048x8 .f32 :=
  Host.divf (less (scat lg)) (broadcastInDim S2048x8 ![0, 1] bcast_S2048x1_S2048x8_0_1 (broadcastInDim S2048x1 ![0] bcast_S2048_S2048x1_0 (Host.reduceAdd (less (scat lg)) (constant S_ .f32 0x00000000#32) reducesTo_S2048x8_S2048_d1 h_S_)))

/-- The gate logits. -/
def logits (x : FVec Ideal S2048x768 .f32) (wg : FVec Ideal S8x768 .f32) : FVec Ideal S2048x8 .f32 :=
  Host.dotGeneral dot_S2048x768_S768x8_S2048x8_1_0_0_1_n_n none x (transpose S768x8 [1, 0] wg transposes_S8x768_S768x8_1_0)

/-- The first product with its bias. -/
def pre (x : FVec Ideal S2048x768 .f32) (w1 : FVec Ideal S8x128x768 .f32) (b1 : FVec Ideal S8x128 .f32) : FVec Ideal S2048x8x128 .f32 :=
  addf (Host.dotGeneral dot_S2048x768_S8x128x768_S2048x8x128_1_2_0_01_n_n none x w1) (broadcastInDim S2048x8x128 ![0, 1, 2] bcast_S1x8x128_S2048x8x128_0_1_2 (broadcastInDim S1x8x128 ![1, 2] bcast_S8x128_S1x8x128_1_2 b1))

/-- The exact GELU. -/
def act (h : FVec Ideal S2048x8x128 .f32) : FVec Ideal S2048x8x128 .f32 :=
  mulf (mulf (broadcastInDim S2048x8x128 ![] bcast_S_S2048x8x128 (constant S_ .f32 0x3F000000#32)) h) (Host.erfc (mulf (Host.negf h) (broadcastInDim S2048x8x128 ![] bcast_S_S2048x8x128 (constant S_ .f32 0x3F3504F3#32))))

/-- The second product with its bias, weighted by the gates and summed over the experts. -/
def combine (g : FVec Ideal S2048x8 .f32) (a : FVec Ideal S2048x8x128 .f32) (w2 : FVec Ideal S8x128x128 .f32) (b2 : FVec Ideal S8x128 .f32) : FVec Ideal S2048x128 .f32 :=
  Host.reduceAdd (mulf (broadcastInDim S2048x8x128 ![0, 1, 2] bcast_S2048x8x1_S2048x8x128_0_1_2 (broadcastInDim S2048x8x1 ![0, 1] bcast_S2048x8_S2048x8x1_0_1 g)) (addf (transpose S2048x8x128 [2, 0, 1] (Host.dotGeneral dot_S8x128x128_S2048x8x128_S8x128x2048_2_2_1_0_0_1 none w2 a) transposes_S8x128x2048_S2048x8x128_2_0_1) (broadcastInDim S2048x8x128 ![0, 1, 2] bcast_S1x8x128_S2048x8x128_0_1_2 (broadcastInDim S1x8x128 ![1, 2] bcast_S8x128_S1x8x128_1_2 b2)))) (constant S_ .f32 0x00000000#32) reducesTo_S2048x8x128_S2048x128_d1 h_S_

/-- The second result is the gate weights of the logits. -/
theorem res30 (m : (ℓ : Loc nD τ sig) → Buf (Elt Ideal) ℓ) (c : Dev nD) :
    res_main_v30 m c = gates (logits (m ((c.tc : Thread nD τ).loc main_arg0)) (m ((c.tc : Thread nD τ).loc main_arg1))) := by
  unfold res_main_v30; rfl

/-- The first result is the mixture. -/
theorem res50 (m : (ℓ : Loc nD τ sig) → Buf (Elt Ideal) ℓ) (c : Dev nD) :
    res_main_v50 m c = combine (gates (logits (m ((c.tc : Thread nD τ).loc main_arg0)) (m ((c.tc : Thread nD τ).loc main_arg1)))) (act (pre (m ((c.tc : Thread nD τ).loc main_arg0)) (m ((c.tc : Thread nD τ).loc main_arg2)) (m ((c.tc : Thread nD τ).loc main_arg3)))) (m ((c.tc : Thread nD τ).loc main_arg4)) (m ((c.tc : Thread nD τ).loc main_arg5)) := by
  unfold res_main_v50; rfl

/-- Logit `e` of row `r`. -/
theorem logits_at (x : FVec Ideal S2048x768 .f32) (wg : FVec Ideal S8x768 .f32) (r : Fin 2048) (e : Fin 8) :
    logits x wg (ix2 r e) = ∑ k, x (ix2 r k) * wg (ix2 e k) := by
  unfold logits; pointwise

/-- The positions and the values of the two greatest, at one row. -/
theorem top_at (lg : FVec Ideal S2048x8 .f32) (r : Fin 2048) (k : Fin 2) :
    (Top lg).1 (ix2 r k) = lg (ix2 r (sorted (fun e => lg (ix2 r e)) ⟨k.val, by omega⟩))
      ∧ (Top lg).2 (ix2 r k) = BitVec.ofNat 32 (sorted (fun e => lg (ix2 r e)) ⟨k.val, by omega⟩).val := by
  have along : ∀ (j : Fin 8) (k' : Fin 8), (ix2 r j : S2048x8.Idx).along 1 k' = ix2 r k' := fun j k' => by
    funext a
    fin_cases a <;> rfl
  constructor
  · unfold Top Host.topK Host.sort2
    pointwise
    rw [along]
    simp only [along]
    rfl
  · unfold Top Host.topK Host.sort2
    pointwise
    rw [along]
    simp only [along]
    rfl

/-- The index pair's row. -/
theorem words_row (ind : IVec S2048x2 32) (r : Fin 2048) (k : Fin 2) : words ind (ix3 r k (0 : Fin 2)) = BitVec.ofNat 32 r.val := by
  unfold words
  pointwise
  refine Routing.wrap_of_lt _ _ ?_
  rw [BitVec.toNat_ofNat]
  have := r.isLt
  omega

/-- The index pair's position, for a word that names one. -/
theorem words_pos (ind : IVec S2048x2 32) (r : Fin 2048) (k : Fin 2) (p : Fin 8) (h : ind (ix2 r k) = BitVec.ofNat 32 p.val) :
    words ind (ix3 r k (1 : Fin 2)) = BitVec.ofNat 32 p.val := by
  unfold words
  pointwise
  rw [h]
  refine Routing.wrap_of_lt _ _ ?_
  rw [BitVec.toNat_ofNat]
  have := p.isLt
  omega

/-- The scattered row. -/
theorem scat_at (lg : FVec Ideal S2048x8 .f32) (r : Fin 2048) (e : Fin 8) :
    scat lg (ix2 r e) = spread (fun e => lg (ix2 r e)) (sorted (fun e => lg (ix2 r e)) 0) (sorted (fun e => lg (ix2 r e)) 1) e := by
  have hk : ∀ k : ℕ, min k 1 < 8 := fun k => by omega
  unfold scat
  refine (ScatterToDense.scatter_eq_GS _ rfl rfl rfl (by decide) (by decide) _ _ _
    (fun i k => BitVec.ofNat 32 (sorted (fun e => lg (ix2 i e)) ⟨min k 1, hk k⟩).val)
    (fun i k => lg (ix2 i (sorted (fun e => lg (ix2 i e)) ⟨min k 1, hk k⟩)))
    (words_row _) (fun i k => words_pos _ i k _ ?_) (fun i k => ?_) r e).trans ?_
  · rw [(top_at lg i k).2]
    have : min k.val 1 = k.val := by omega
    simp only [this]
  · show (Top lg).1 (ix2 i k) = _
    rw [(top_at lg i k).1]
    have : min k.val 1 = k.val := by omega
    simp only [this]
  · have hw : ∀ p : Fin 8, e.val = (BitVec.ofNat 32 p.val).toNat ↔ e = p := fun p => by
      rw [BitVec.toNat_ofNat, Nat.mod_eq_of_lt (by have := p.isLt; omega)]
      exact Fin.ext_iff.symm
    rw [ScatterToDense.GS_succ, ScatterToDense.GS_succ, ScatterToDense.GS_zero]
    simp only [hw]
    unfold spread
    pointwise
    rw [negInf]

/-- The gate weight of expert `e` in row `r`, the row's logits being reals. -/
theorem gates_at (lg : FVec Ideal S2048x8 .f32) (r : Fin 2048) (e : Fin 8) (hl : ∀ k, ∃ a : ℝ, lg (ix2 r k) = a) :
    gates lg (ix2 r e) = gateOf (fun e => lg (ix2 r e)) (sorted (fun e => lg (ix2 r e)) 0) (sorted (fun e => lg (ix2 r e)) 1) e := by
  have h := sorted_isTop2 fun e => lg (ix2 r e)
  have hless : ∀ e, less (scat lg) (ix2 r e) = Ideal.exp (spread (fun e => lg (ix2 r e)) (sorted (fun e => lg (ix2 r e)) 0)
      (sorted (fun e => lg (ix2 r e)) 1) e - lg (ix2 r (sorted (fun e => lg (ix2 r e)) 0))) := fun e => by
    unfold less
    pointwise
    simp only [scat_at, negInf]
    rw [h.spread_max hl, max_eq_right bot_le]
  unfold gates
  pointwise
  simp only [hless]
  exact h.softmax hl e

/-- The hidden layer before its activation. -/
theorem pre_at (x : FVec Ideal S2048x768 .f32) (w1 : FVec Ideal S8x128x768 .f32) (b1 : FVec Ideal S8x128 .f32) (r : Fin 2048)
    (e : Fin 8) (k : Fin 128) : pre x w1 b1 (ix3 r e k) = ∑ d, x (ix2 r d) * w1 (ix3 e k d) + b1 (ix2 e k) := by
  unfold pre; pointwise

/-- The activation. -/
theorem act_at (h : FVec Ideal S2048x8x128 .f32) (r : Fin 2048) (e : Fin 8) (k : Fin 128) :
    act h (ix3 r e k) = Ideal.ofBits .f32 0x3F000000#32 * h (ix3 r e k) * Ideal.erfc (-h (ix3 r e k) * Ideal.ofBits .f32 0x3F3504F3#32) := by
  unfold act; pointwise

/-- The mixture. -/
theorem combine_at (g : FVec Ideal S2048x8 .f32) (a : FVec Ideal S2048x8x128 .f32) (w2 : FVec Ideal S8x128x128 .f32)
    (b2 : FVec Ideal S8x128 .f32) (r : Fin 2048) (o : Fin 128) :
    combine g a w2 b2 (ix2 r o) = ∑ e, g (ix2 r e) * (∑ k, w2 (ix3 e o k) * a (ix3 r e k) + b2 (ix2 e o)) := by
  unfold combine; pointwise

end Cert.Moe.Ref

end
-- ==== Proof.Final.lean ====
/-
  The kernel's two result arrays, after the run, are the reference's two results.
-/
module

public import proofs.«01_k».proof.Defs
public import proofs.«01_k».proof.Proof.Gen.Pre_finite_gate_inputs
public import proofs.«01_k».proof.Proof.Gen.KernelIdeal.Value
public import Idealize.ShloMosaic.Lib.Claim
public import proofs.«01_k».proof.Proof.Tile
public import proofs.«01_k».proof.Proof.Ref

@[expose] public section

set_option maxRecDepth 16384

noncomputable section

open Idealize.ShloMosaic Idealize.ShloMosaic.TcCoe Idealize.SL.Sem
open Idealize.ShloMosaic.Pipeline (Dat)

namespace Cert.Moe.Final

open Cert.KernelIdeal Cert.KernelIdeal.Gen

/-- A value whose magnitude is below infinity is a real. -/
theorem real_of_lt (a : EReal)
    (h : BitVec.ofBool (decide (FloatOps.absf (F := Ideal) (φ := .f32) a < Ideal.ofBits .f32 0x7F800000#32)) = 1#1) : ∃ r : ℝ, a = r := by
  rw [posInf] at h
  have h' : max a (-a) < ⊤ := by
    by_contra hn
    rw [show decide (FloatOps.absf (F := Ideal) (φ := .f32) a < ⊤) = false from decide_eq_false hn] at h
    exact absurd h (by decide)
  induction a with
  | bot => exact absurd h' (by simp)
  | coe r => exact ⟨r, rfl⟩
  | top => exact absurd h' (by simp)

/-- The precondition, read: every entry of the input and of the gate's weights is a real. -/
theorem real_of_pre (m : (ℓ : Loc nD τ sig) → Buf (Elt Ideal) ℓ) (hpre : Cert.Pre_KernelIdeal_finite_gate_inputs m) (c : Dev nD) :
    (∀ i : S2048x768.Idx, ∃ a : ℝ, (show FVec Ideal S2048x768 .f32 from m ((c : Thread nD τ).loc main_arg0)) i = (a : EReal))
      ∧ ∀ i : S8x768.Idx, ∃ a : ℝ, (show FVec Ideal S8x768 .f32 from m ((c : Thread nD τ).loc main_arg1)) i = (a : EReal) := by
  obtain ⟨h0, h1⟩ := hpre c
  constructor
  · intro i
    have h := congrFun h0 i
    unfold Cert.Pre_finite_gate_inputs.fn at h
    pointwise at h
    exact real_of_lt _ h
  · intro i
    have h := congrFun h1 i
    unfold Cert.Pre_finite_gate_inputs.fn at h
    pointwise at h
    exact real_of_lt _ h

/-- The logits of a row of reals are reals. -/
theorem logits_real (X : FVec Ideal S2048x768 .f32) (Wg : FVec Ideal S8x768 .f32) (hX : ∀ i, ∃ a : ℝ, X i = (a : EReal))
    (hW : ∀ i, ∃ a : ℝ, Wg i = (a : EReal)) (R : Fin 2048) (e : Fin 8) : ∃ a : ℝ, Ref.logits X Wg (ix2 R e) = (a : EReal) := by
  rw [Ref.logits_at]
  exact sum_mul_real _ _ (fun k => hX _) fun k => hW _

/-- A tile's gate weights are the reference's, the tile's row `i` being the input's row `j`. -/
theorem gate_agree (wg : Vec Ideal S8x768 .f32) (xt : Vec Ideal S256x768 .f32) (X : FVec Ideal S2048x768 .f32) (Wg : FVec Ideal S8x768 .f32)
    (hX : ∀ i, ∃ a : ℝ, X i = (a : EReal)) (hW : ∀ i, ∃ a : ℝ, Wg i = (a : EReal)) (i : S256x8.Idx) (j : S2048x8.Idx)
    (h1 : (i 1 : ℕ) = j 1) (hx : ∀ d : Fin 768, xt (ix2 (i 0) d) = X (ix2 (j 0) d)) (hw : ∀ (e : Fin 8) (d : Fin 768), wg (ix2 e d) = Wg (ix2 e d)) :
    Tile.gate wg xt i = Ref.gates (Ref.logits X Wg) j := by
  obtain ⟨r, e, rfl⟩ : ∃ (r : Fin 256) (e : Fin 8), i = ix2 r e := ⟨i 0, i 1, by blk_ext []⟩
  obtain ⟨R, E, rfl⟩ : ∃ (R : Fin 2048) (E : Fin 8), j = ix2 R E := ⟨j 0, j 1, by blk_ext []⟩
  obtain rfl : e = E := Fin.ext h1
  have hl : (fun e => Ref.logits X Wg (ix2 R e)) = Tile.lgt wg xt r := by
    funext e
    rw [Ref.logits_at]
    exact Finset.sum_congr rfl fun d _ => congrArg₂ (· * ·) (hx d).symm (hw e d).symm
  have hr := logits_real X Wg hX hW R
  rw [Ref.gates_at _ _ _ hr, hl, Tile.gate_at wg xt r fun e => by rw [← hl]; exact hr e]

/-- A tile's output is the reference's, the tile's row `i` being the input's row `j` and its weights the reference's laid out flat. -/
theorem out_agree (wg : Vec Ideal S8x768 .f32) (w1a w1b : Vec Ideal S512x768 .f32) (b1 : Vec Ideal S1x1024 .f32) (w2 : Vec Ideal S1024x128 .f32)
    (b2 : Vec Ideal S8x128 .f32) (xt : Vec Ideal S256x768 .f32)
    (X : FVec Ideal S2048x768 .f32) (Wg : FVec Ideal S8x768 .f32) (W1 : FVec Ideal S8x128x768 .f32) (B1 : FVec Ideal S8x128 .f32)
    (W2 : FVec Ideal S8x128x128 .f32) (B2 : FVec Ideal S8x128 .f32)
    (hX : ∀ i, ∃ a : ℝ, X i = (a : EReal)) (hW : ∀ i, ∃ a : ℝ, Wg i = (a : EReal)) (i : S256x128.Idx) (j : S2048x128.Idx)
    (h1 : (i 1 : ℕ) = j 1) (hx : ∀ d : Fin 768, xt (ix2 (i 0) d) = X (ix2 (j 0) d)) (hw : ∀ (e : Fin 8) (d : Fin 768), wg (ix2 e d) = Wg (ix2 e d))
    (ha : ∀ (e : Fin 8) (k : Fin 128) (h : e.val * 128 + k.val < 512) (d : Fin 768), w1a (ix2 ⟨e.val * 128 + k.val, h⟩ d) = W1 (ix3 e k d))
    (hb : ∀ (e : Fin 8) (k : Fin 128) (h : e.val * 128 + k.val - 512 < 512) (d : Fin 768), ¬ e.val * 128 + k.val < 512 →
      w1b (ix2 ⟨e.val * 128 + k.val - 512, h⟩ d) = W1 (ix3 e k d))
    (hB : ∀ (e : Fin 8) (k : Fin 128), b1 (ix2 (0 : Fin 1) ⟨e.val * 128 + k.val, by omega⟩) = B1 (ix2 e k))
    (hW2 : ∀ (e : Fin 8) (k o : Fin 128), w2 (ix2 ⟨e.val * 128 + k.val, by omega⟩ o) = W2 (ix3 e o k))
    (hB2 : ∀ (e : Fin 8) (o : Fin 128), b2 (ix2 e o) = B2 (ix2 e o)) :
    Tile.out wg w1a w1b b1 w2 b2 xt i = Ref.combine (Ref.gates (Ref.logits X Wg)) (Ref.act (Ref.pre X W1 B1)) W2 B2 j := by
  obtain ⟨r, o, rfl⟩ : ∃ (r : Fin 256) (o : Fin 128), i = ix2 r o := ⟨i 0, i 1, by blk_ext []⟩
  obtain ⟨R, O, rfl⟩ : ∃ (R : Fin 2048) (O : Fin 128), j = ix2 R O := ⟨j 0, j 1, by blk_ext []⟩
  obtain rfl : o = O := Fin.ext h1
  have hl : (fun e => Ref.logits X Wg (ix2 R e)) = Tile.lgt wg xt r := by
    funext e
    rw [Ref.logits_at]
    exact Finset.sum_congr rfl fun d _ => congrArg₂ (· * ·) (hx d).symm (hw e d).symm
  have hr := logits_real X Wg hX hW R
  rw [Tile.out_at wg w1a w1b b1 w2 b2 xt r o (fun e => by rw [← hl]; exact hr e) (fun e k d => W1 (ix3 e k d)) (fun e k => B1 (ix2 e k))
    (fun e k => W2 (ix3 e o k)) ha hb hB fun e k => hW2 e k o, Ref.combine_at]
  refine Finset.sum_congr rfl fun e _ => ?_
  rw [Ref.gates_at _ _ _ hr, hl, hB2]
  refine congrArg (gateOf _ _ _ e * ·) (congrArg (· + B2 (ix2 e o)) (Finset.sum_congr rfl fun k _ => congrArg (W2 (ix3 e o k) * ·) ?_))
  rw [Ref.act_at, Ref.pre_at]
  have : ∑ d : Fin 768, xt (ix2 r d) * W1 (ix3 e k d) = ∑ d : Fin 768, X (ix2 R d) * W1 (ix3 e k d) :=
    Finset.sum_congr rfl fun d _ => congrArg (· * _) (hx d)
  rw [this]

/-- Where every window's block lies at a grid point. -/
theorem idx : ∀ t : Fin cfg0.N, win0_0.index t = ![4 * t.val, 0] ∧ win0_1.index t = ![4 * t.val + 1, 0] ∧ win0_2.index t = ![4 * t.val + 2, 0]
    ∧ win0_3.index t = ![4 * t.val + 3, 0] ∧ win0_4.index t = ![0, 0] ∧ win0_5.index t = ![0, 0] ∧ win0_6.index t = ![1, 0]
    ∧ win0_7.index t = ![0, 0] ∧ win0_8.index t = ![0, 0] ∧ win0_9.index t = ![0, 0] ∧ win0_10.index t = ![t.val, 0] ∧ win0_11.index t = ![t.val, 0] :=
  (by decide +kernel : ∀ t : Fin grid0.N, _)

variable (m : (ℓ : Loc nD τ sig) → Buf (Elt Ideal) ℓ)

/-- The first half of the first layer's weights, as every grid point finds it. -/
theorem w1a_at (c : Dev nD) (t : Fin cfg0.N) (e : Fin 8) (k : Fin 128) (h : e.val * 128 + k.val < 512) (d : Fin 768) :
    iblk m c 5 t (ix2 ⟨e.val * 128 + k.val, h⟩ d) = m ((c : Thread nD τ).loc main_arg2) (ix3 e k d) := by
  blk_point [iblk, idx t]

/-- The second half of the first layer's weights. -/
theorem w1b_at (c : Dev nD) (t : Fin cfg0.N) (e : Fin 8) (k : Fin 128) (h : e.val * 128 + k.val - 512 < 512) (d : Fin 768)
    (hn : ¬ e.val * 128 + k.val < 512) :
    iblk m c 6 t (ix2 ⟨e.val * 128 + k.val - 512, h⟩ d) = m ((c : Thread nD τ).loc main_arg2) (ix3 e k d) := by
  blk_point [iblk, idx t]

/-- The first layer's bias. -/
theorem b1_at (c : Dev nD) (t : Fin cfg0.N) (e : Fin 8) (k : Fin 128) :
    iblk m c 7 t (ix2 (0 : Fin 1) ⟨e.val * 128 + k.val, by omega⟩) = m ((c : Thread nD τ).loc main_arg3) (ix2 e k) := by
  blk_point [iblk, idx t]

/-- The second layer's weights, laid out flat by the host: each expert's transposed, one below the other. -/
theorem flat2 (c : Dev nD) : V m c main_call0_v2
    = shapeCast S1024x128 (transpose S8x128x128 [0, 2, 1] (show FVec Ideal S8x128x128 .f32 from m ((c : Thread nD τ).loc main_arg4))
        transposes_S8x128x128_S8x128x128_0_2_1) shapeCasts_S8x128x128_S1024x128 := by
  entry_read
  rfl

/-- The second layer's weights, transposed. -/
theorem w2_at (c : Dev nD) (t : Fin cfg0.N) (e : Fin 8) (k o : Fin 128) :
    iblk m c 8 t (ix2 ⟨e.val * 128 + k.val, by omega⟩ o) = m ((c : Thread nD τ).loc main_arg4) (ix3 e o k) := by
  show ((cfg0.win 8).blk t).view.read (Elt Ideal) (V m c main_call0_v2) _ = _
  rw [flat2]
  blk_simp [idx t]
  pointwise
  blk_ext [idx t]

/-- The gate weights of a grid point's block are the reference's, where the block lies. -/
theorem point11 (hpre : Cert.Pre_KernelIdeal_finite_gate_inputs m) (c : Dev nD) (t : Fin cfg0.N) (y : S1024x8.Idx) :
    out0_11 (iblk m c 0 t) (iblk m c 1 t) (iblk m c 2 t) (iblk m c 3 t) (iblk m c 4 t) (iblk m c 5 t) (iblk m c 6 t) (iblk m c 7 t) (iblk m c 8 t)
        (iblk m c 9 t) y
      = Ref.gates (Ref.logits (m ((c : Thread nD τ).loc main_arg0)) (m ((c : Thread nD τ).loc main_arg1))) (((cfg0.win 11).blk t).view.emb y) := by
  obtain ⟨hX, hW⟩ := real_of_pre m hpre c
  rw [Tile.out11_eq]
  canon_tiles x h
  all_goals
    refine gate_agree _ _ _ _ hX hW x _ ?_ (fun d => ?_) fun e d => ?_
    · blk_simp [idx t] <;> omega
    · blk_ext [iblk, V, idx t]
    · blk_ext [iblk, V, idx t]

/-- The outputs of a grid point's block are the reference's, where the block lies. -/
theorem point10 (hpre : Cert.Pre_KernelIdeal_finite_gate_inputs m) (c : Dev nD) (t : Fin cfg0.N) (y : S1024x128.Idx) :
    out0_10 (iblk m c 0 t) (iblk m c 1 t) (iblk m c 2 t) (iblk m c 3 t) (iblk m c 4 t) (iblk m c 5 t) (iblk m c 6 t) (iblk m c 7 t) (iblk m c 8 t)
        (iblk m c 9 t) y
      = Ref.combine (Ref.gates (Ref.logits (m ((c : Thread nD τ).loc main_arg0)) (m ((c : Thread nD τ).loc main_arg1))))
          (Ref.act (Ref.pre (m ((c : Thread nD τ).loc main_arg0)) (m ((c : Thread nD τ).loc main_arg2)) (m ((c : Thread nD τ).loc main_arg3))))
          (m ((c : Thread nD τ).loc main_arg4)) (m ((c : Thread nD τ).loc main_arg5)) (((cfg0.win 10).blk t).view.emb y) := by
  obtain ⟨hX, hW⟩ := real_of_pre m hpre c
  rw [Tile.out10_eq]
  canon_tiles x h
  all_goals
    refine out_agree _ _ _ _ _ _ _ _ _ _ _ _ _ hX hW x _ ?_ (fun d => ?_) (fun e d => ?_) (fun e k h d => ?_) (fun e k h d hn => ?_) (fun e k => ?_)
      (fun e k o => ?_) fun e o => ?_
    · blk_simp [idx t] <;> omega
    · blk_ext [iblk, V, idx t]
    · blk_ext [iblk, V, idx t]
    · exact w1a_at m c t e k h d
    · exact w1b_at m c t e k h d hn
    · exact b1_at m c t e k
    · exact w2_at m c t e k o
    · blk_ext [iblk, V, idx t]

/-- The gate weights after the run. -/
theorem final11 (hpre : Cert.Pre_KernelIdeal_finite_gate_inputs m) (c : Dev nD) : (dats m 0 c).arrAt 11 (cfgs 0).N
    = Ref.gates (Ref.logits (m ((c : Thread nD τ).loc main_arg0)) (m ((c : Thread nD τ).loc main_arg1))) := by
  refine (dats m 0 c).arrAt_eq_of_covers 11 _ (by decide +kernel) fun t _ y => ?_
  blk_simp
  rw [after0_11]
  exact point11 m hpre c t y

/-- The outputs after the run. -/
theorem final10 (hpre : Cert.Pre_KernelIdeal_finite_gate_inputs m) (c : Dev nD) : (dats m 0 c).arrAt 10 (cfgs 0).N
    = Ref.combine (Ref.gates (Ref.logits (m ((c : Thread nD τ).loc main_arg0)) (m ((c : Thread nD τ).loc main_arg1))))
        (Ref.act (Ref.pre (m ((c : Thread nD τ).loc main_arg0)) (m ((c : Thread nD τ).loc main_arg2)) (m ((c : Thread nD τ).loc main_arg3))))
        (m ((c : Thread nD τ).loc main_arg4)) (m ((c : Thread nD τ).loc main_arg5)) := by
  refine (dats m 0 c).arrAt_eq_of_covers 10 _ (by decide +kernel) fun t _ y => ?_
  blk_simp
  rw [after0_10]
  exact point10 m hpre c t y

end Cert.Moe.Final

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_gate_inputs
public import proofs.«01_k».proof.Proof.Gen.KernelIdeal.Value
public import proofs.«01_k».proof.Proof.Gen.ReferenceIdeal.Run
public import proofs.«01_k».proof.Proof.Final
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The algebraic claim: under the precondition the two programs end with equal results. -/
theorem algebraic : Cert.algebraic_KernelIdeal_ReferenceIdeal_pre_finite_gate_inputs (hKernelIdeal := Cert.KernelIdeal.Gen.facts)
    (hReferenceIdeal := Cert.ReferenceIdeal.Gen.facts) (hPre_finite_gate_inputs := Cert.Pre_finite_gate_inputs.Gen.facts) := by
  pair_intro
  · run_from Cert.KernelIdeal.Gen.run_main m g
  · run_from Cert.ReferenceIdeal.Value.run m' g'
    all_goals obtain ⟨h0, h1, h2, h3, h4, h5⟩ := hagree c
    · refine (Cert.Moe.Ref.res50 m' c).trans ?_
      rw [h0, h1, h2, h3, h4, h5]
      exact (Cert.Moe.Final.final10 m hpre c).symm
    · refine (Cert.Moe.Ref.res30 m' c).trans ?_
      rw [h0, h1]
      exact (Cert.Moe.Final.final11 m hpre c).symm

/-- The reference runs, leaves its arguments unchanged and declares no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1)
        ∧ r.2.mem (c.tc.loc Cert.ReferenceIdeal.main_arg2) = m (c.tc.loc Cert.ReferenceIdeal.main_arg2)
        ∧ r.2.mem (c.tc.loc Cert.ReferenceIdeal.main_arg3) = m (c.tc.loc Cert.ReferenceIdeal.main_arg3)
        ∧ r.2.mem (c.tc.loc Cert.ReferenceIdeal.main_arg4) = m (c.tc.loc Cert.ReferenceIdeal.main_arg4)
        ∧ r.2.mem (c.tc.loc Cert.ReferenceIdeal.main_arg5) = m (c.tc.loc Cert.ReferenceIdeal.main_arg5))
        ∧ r.2.sem = fun _ => 0) :=
  θ_run_mono (Cert.ReferenceIdeal.Value.run m g) fun r h =>
    ⟨fun c => (h c).2.2, Idealize.ShloMosaic.sem_eq_zero_of_no_sems (by decide) r.2⟩

/-- Everything the certificate claims. -/
theorem claim : Cert.Claim :=
  ⟨Cert.Kernel.Gen.facts, Cert.KernelIdeal.Gen.facts, Cert.ReferenceIdeal.Gen.facts, Cert.Pre_finite_gate_inputs.Gen.facts,
    fun m g _ => Cert.Kernel.Gen.frame m g, fun m g _ => Cert.KernelIdeal.Gen.frame m g, fun m g _ => Cert.KernelIdeal.Gen.frame m g,
    fun m g _ => frame_reference m g, fun m g _ => frame_reference m g, trivial, algebraic⟩

end Cert.Proof

end
